-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096x200x128 : Shape := ⟨3, ![4096, 200, 128]⟩
abbrev S4096x200 : Shape := ⟨2, ![4096, 200]⟩
abbrev S2x16 : Shape := ⟨2, ![2, 16]⟩
abbrev S1x16 : Shape := ⟨2, ![1, 16]⟩
abbrev S16 : Shape := ⟨1, ![16]⟩
abbrev S_ : Shape := ⟨0, ![]⟩

class Facts : Prop where
  slices_S2x16_S1x16_0_0 : S2x16.Slices ![0, 0] S1x16
  shapeCasts_S1x16_S16 : S1x16.ShapeCasts S16
  bcast_S_S4096x200 : S_.BroadcastsInDim S4096x200 (![] : Fin 0 → Fin S4096x200.rank)
  reducesTo_S4096x200_S_d0_1 : S4096x200.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x200x128 .f32) (main_arg1 : IVec S4096x200 32) (main_arg2 : FVec F S2x16 .f32) : IVec S_ 1 :=
  let main_v0 : FVec F S1x16 .f32 := (extractStridedSlice S1x16 ![0, 0] · slices_S2x16_S1x16_0_0) main_arg2
  let main_v1 : FVec F S16 .f32 := shapeCast S16 main_v0 shapeCasts_S1x16_S16
  let main_c : IVec S_ 32 := constantI S_ 32 0#32
  let main_v2 : IVec S4096x200 32 := broadcastInDim S4096x200 ![] bcast_S_S4096x200 main_c
  let main_v3 : IVec S4096x200 1 := cmpi .sge main_arg1 main_v2
  let main_c_0 : IVec S_ 32 := constantI S_ 32 1#32
  let main_v4 : IVec S4096x200 32 := broadcastInDim S4096x200 ![] bcast_S_S4096x200 main_c_0
  let main_v5 : IVec S4096x200 1 := cmpi .sle main_arg1 main_v4
  let main_v6 : IVec S4096x200 1 := andi main_v3 main_v5
  let main_c_1 : IVec S_ 1 := constantI S_ 1 1#1
  let main_v7 : IVec S_ 1 := (fun x v => Host.reduce IntOp.andi x v reducesTo_S4096x200_S_d0_1 h_S_) main_v6 main_c_1
  let main_cst : FVec F S_ .f32 := constant S_ .f32 0xFF800000#32
  let main_v8 : FVec F S16 .f32 := broadcastInDim S16 ![] bcast_S_S16 main_cst
  let main_v9 : IVec S16 1 := cmpf .ogt main_v1 main_v8
  let main_cst_2 : FVec F S_ .f32 := constant S_ .f32 0x7F800000#32
  let main_v10 : FVec F S16 .f32 := broadcastInDim S16 ![] bcast_S_S16 main_cst_2
  let main_v11 : IVec S16 1 := cmpf .olt main_v1 main_v10
  let main_v12 : IVec S16 1 := andi main_v9 main_v11
  let main_c_3 : IVec S_ 1 := constantI S_ 1 1#1
  let main_v13 : IVec S_ 1 := (fun x v => Host.reduce IntOp.andi x v reducesTo_S16_S_d0 h_S_) main_v12 main_c_3
  let main_v14 : IVec S_ 1 := andi main_v7 main_v13
  main_v14
-- ==== Kernel.lean ====
abbrev S4096x200x128 : Shape := ⟨3, ![4096, 200, 128]⟩
abbrev S4096x200 : Shape := ⟨2, ![4096, 200]⟩
abbrev S2x16 : Shape := ⟨2, ![2, 16]⟩
abbrev S1x16 : Shape := ⟨2, ![1, 16]⟩
abbrev S16 : Shape := ⟨1, ![16]⟩
abbrev S8x16 : Shape := ⟨2, ![8, 16]⟩
abbrev S128 : Shape := ⟨1, ![128]⟩
abbrev S1x128 : Shape := ⟨2, ![1, 128]⟩
abbrev S4096x28800 : Shape := ⟨2, ![4096, 28800]⟩
abbrev S64x200x128 : Shape := ⟨3, ![64, 200, 128]⟩
abbrev S64x200 : Shape := ⟨2, ![64, 200]⟩
abbrev S64x28800 : Shape := ⟨2, ![64, 28800]⟩
abbrev S64x1x128 : Shape := ⟨3, ![64, 1, 128]⟩
abbrev S64x128 : Shape := ⟨2, ![64, 128]⟩
abbrev S64x1 : Shape := ⟨2, ![64, 1]⟩
abbrev S64x16 : Shape := ⟨2, ![64, 16]⟩
abbrev S64x112 : Shape := ⟨2, ![64, 112]⟩
abbrev S64x32 : Shape := ⟨2, ![64, 32]⟩
abbrev S64x96 : Shape := ⟨2, ![64, 96]⟩
abbrev S64x48 : Shape := ⟨2, ![64, 48]⟩
abbrev S64x80 : Shape := ⟨2, ![64, 80]⟩
abbrev S64x64 : Shape := ⟨2, ![64, 64]⟩
abbrev S4096x200x144 : Shape := ⟨3, ![4096, 200, 144]⟩

abbrev nBuf : Space → Nat
  | .hbm => 17
  | .vmem => 8
  | .smem => 0
  | _ => 0

abbrev bufTy : (tb : Table) → Fin (tcTables nBuf tb) → BufTy
  | .hbm, ⟨0, _⟩ => ⟨S4096x200x128, .f32⟩
  | .hbm, ⟨1, _⟩ => ⟨S4096x200, .i32⟩
  | .hbm, ⟨2, _⟩ => ⟨S2x16, .f32⟩
  | .hbm, ⟨3, _⟩ => ⟨S1x16, .f32⟩
  | .hbm, ⟨4, _⟩ => ⟨S16, .f32⟩
  | .hbm, ⟨5, _⟩ => ⟨S1x16, .f32⟩
  | .hbm, ⟨6, _⟩ => ⟨S8x16, .f32⟩
  | .hbm, ⟨7, _⟩ => ⟨S128, .f32⟩
  | .hbm, ⟨8, _⟩ => ⟨S1x128, .f32⟩
  | .hbm, ⟨9, _⟩ => ⟨S1x16, .f32⟩
  | .hbm, ⟨10, _⟩ => ⟨S16, .f32⟩
  | .hbm, ⟨11, _⟩ => ⟨S1x16, .f32⟩
  | .hbm, ⟨12, _⟩ => ⟨S8x16, .f32⟩
  | .hbm, ⟨13, _⟩ => ⟨S128, .f32⟩
  | .hbm, ⟨14, _⟩ => ⟨S1x128, .f32⟩
  | .hbm, ⟨15, _⟩ => ⟨S4096x28800, .f32⟩
  | .hbm, ⟨16, _⟩ => ⟨S4096x200x144, .f32⟩
  | .local _ .vmem, ⟨0, _⟩ => ⟨S1x128, .f32⟩
  | .local _ .vmem, ⟨1, _⟩ => ⟨S1x128, .f32⟩
  | .local _ .vmem, ⟨2, _⟩ => ⟨S64x200x128, .f32⟩
  | .local _ .vmem, ⟨3, _⟩ => ⟨S64x200x128, .f32⟩
  | .local _ .vmem, ⟨4, _⟩ => ⟨S64x200, .i32⟩
  | .local _ .vmem, ⟨5, _⟩ => ⟨S64x200, .i32⟩
  | .local _ .vmem, ⟨6, _⟩ => ⟨S64x28800, .f32⟩
  | .local _ .vmem, ⟨7, _⟩ => ⟨S64x28800, .f32⟩
  | _, _ => ⟨S4096x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x28800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x200x128 : Shape := ⟨3, ![4096, 200, 128]⟩
abbrev S4096x200 : Shape := ⟨2, ![4096, 200]⟩
abbrev S2x16 : Shape := ⟨2, ![2, 16]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x16 : Shape := ⟨3, ![4096, 200, 16]⟩
abbrev S4096x200x144 : Shape := ⟨3, ![4096, 200, 144]⟩

abbrev nBuf : Space → Nat
  | .hbm => 27
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S4096x200, .i32⟩
  | .hbm, ⟨2, _⟩ => ⟨S2x16, .f32⟩
  | .hbm, ⟨3, _⟩ => ⟨S_, .i32⟩
  | .hbm, ⟨4, _⟩ => ⟨S4096x200, .i32⟩
  | .hbm, ⟨5, _⟩ => ⟨S4096x200, .i1⟩
  | .hbm, ⟨6, _⟩ => ⟨S_, .i32⟩
  | .hbm, ⟨7, _⟩ => ⟨S4096x200, .i32⟩
  | .hbm, ⟨8, _⟩ => ⟨S4096x200, .i32⟩
  | .hbm, ⟨9, _⟩ => ⟨S4096x200, .i32⟩
  | .hbm, ⟨10, _⟩ => ⟨S4096x200x1, .i32⟩
  | .hbm, ⟨11, _⟩ => ⟨S1, .i32⟩
  | .hbm, ⟨12, _⟩ => ⟨S_, .i32⟩
  | .hbm, ⟨13, _⟩ => ⟨S4096x200x1, .i32⟩
  | .hbm, ⟨14, _⟩ => ⟨S4096x200x1, .i1⟩
  | .hbm, ⟨15, _⟩ => ⟨S1x1x1, .i32⟩
  | .hbm, ⟨16, _⟩ => ⟨S4096x200x1, .i32⟩
  | .hbm, ⟨17, _⟩ => ⟨S4096x200x1, .i1⟩
  | .hbm, ⟨18, _⟩ => ⟨S4096x200x1, .i1⟩
  | .hbm, ⟨19, _⟩ => ⟨S_, .i1⟩
  | .hbm, ⟨20, _⟩ => ⟨S4096x200, .i1⟩
  | .hbm, ⟨21, _⟩ => ⟨S4096x200x16, .f32⟩
  | .hbm, ⟨22, _⟩ => ⟨S4096x200x16, .i1⟩
  | .hbm, ⟨23, _⟩ => ⟨S_, .f32⟩
  | .hbm, ⟨24, _⟩ => ⟨S4096x200x16, .f32⟩
  | .hbm, ⟨25, _⟩ => ⟨S4096x200x16, .f32⟩
  | .hbm, ⟨26, _⟩ => ⟨S4096x200x144, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pipeline.Value
public import Idealize.ShloMosaic.Lib.Pipeline.ValueKit.Tiles
public import Idealize.ShloMosaic.Lib.PointwiseCore

@[expose] public section

set_option maxRecDepth 16384

noncomputable section

open Idealize.ShloMosaic Idealize.ShloMosaic.TcCoe Idealize.SL.Sem

/-!
# One column tile of the kernel's output block

The body writes its (64, 28800) block as 225 tiles of 128 columns.  The tiles come in 25 groups of nine, and a group
holds eight sequence positions of 144 columns each.  This file spells the tiles of a group once, for a variable group
number, and reads each of them at an index.
-/

namespace Cert.KernelIdeal.Hand

open Cert.KernelIdeal Cert.KernelIdeal.Gen

variable {F : FTy → Type} [FloatOps F] [Facts]

/-- The sequence rows of position `l`, one per batch entry. -/
def row (x2 : Vec F S64x200x128 .f32) (l : ℕ) (h : ∀ a, (![0, l, 0] : Fin 3 → ℕ) a + S64x1x128.size a ≤ S64x200x128.size a) :
    FVec F S64x128 .f32 :=
  shapeCast S64x128 (View.ld x2 (Rect.unit (s := S64x200x128) ![0, l, 0] S64x1x128.size h)) shapeCasts_S64x1x128_S64x128

/-- A tile turned right by `n` columns: its last `n` columns, then the others. -/
def rot (n : ℕ) (v : FVec F S64x128 .f32)
    (h1 : S64x128.Slices ![0, 128 - n] (⟨2, ![64, n]⟩ : Shape)) (h2 : S64x128.Slices ![0, 0] (⟨2, ![64, 128 - n]⟩ : Shape))
    (h3 : Shape.Concatenates [(⟨2, ![64, n]⟩ : Shape), (⟨2, ![64, 128 - n]⟩ : Shape)] S64x128 1) : FVec F S64x128 .f32 :=
  concatenate S64x128 1 [⟨(⟨2, ![64, n]⟩ : Shape), extractStridedSlice (⟨2, ![64, n]⟩ : Shape) ![0, 128 - n] v h1⟩,
    ⟨(⟨2, ![64, 128 - n]⟩ : Shape), extractStridedSlice (⟨2, ![64, 128 - n]⟩ : Shape) ![0, 0] v h2⟩] h3

/-- The first weight row, as the body reads it. -/
def w0 (x0 : Vec F S1x128 .f32) : FVec F S1x128 .f32 :=
  shapeCast S1x128 (View.ld x0 (Rect.unit (s := S1x128) ![0, 0] S1x128.size inb_S1x128_S1x128_0_0)) shapeCasts_S1x128_S1x128

/-- The mask embedding of position `l`: the first weight row plus the mask times the difference of the two rows. -/
def memb (x0 x1 : Vec F S1x128 .f32) (x3 : Vec F S64x200 .i32) (l : ℕ) (h : S64x200.Slices ![0, l] S64x1) :
    FVec F S64x128 .f32 :=
  addf (broadcastTo S64x128 (w0 x0) broadcasts_S1x128_S64x128)
    (mulf (broadcastTo S64x128 (extractStridedSlice S64x1 ![0, l]
        (sitofp .f32 (View.ld x3 (Rect.unit (s := S64x200) ![0, 0] S64x200.size inb_S64x200_S64x200_0_0)) : FVec F S64x200 .f32) h)
        broadcasts_S64x1_S64x128)
      (broadcastTo S64x128 (subf (w0 x1) (w0 x0)) broadcasts_S1x128_S64x128))

/-- The choice between two tiles by column: `a` in the first `n` columns, `b` in the others. -/
def sel (n : ℕ) (a b : FVec F S64x128 .f32) : FVec F S64x128 .f32 :=
  select (broadcastTo S64x128 (shapeCast S1x128 (cmpi .slt (iota .tc S1x128 32 [1] iota_S1x128_d1_w32)
    (broadcast S1x128 (BitVec.ofNat 32 n))) shapeCasts_S1x128_S1x128) broadcasts_S1x128_S64x128) a b

/-- A sequence row read at a batch entry and a column. -/
theorem row_apply (x2 : Vec F S64x200x128 .f32) (l : ℕ) (hl : l < 200) (h) (b : Fin 64) (x : Fin 128) :
    row x2 l h (ix2 b x) = x2 (ix3 b ⟨l, hl⟩ x) := by
  unfold row
  pointwise

/-- A turned tile read at a column: the tile at the column `n` to the left, going round. -/
theorem rot_apply (n : ℕ) (hn : n ≤ 128) (v : FVec F S64x128 .f32) (h1 h2 h3) (b : Fin 64) (x : Fin 128) :
    rot n v h1 h2 h3 (ix2 b x) = v (ix2 b ⟨(x.val + (128 - n)) % 128, Nat.mod_lt _ (by omega)⟩) := by
  unfold rot
  pointwise
  split
  · next hx =>
    refine congrArg v (congrArg₂ ix2 (Fin.ext rfl) (Fin.ext ?_))
    simp only [Shape.Idx.norm_def]
    show 128 - n + x.val = (x.val + (128 - n)) % 128
    omega
  · next hx =>
    refine congrArg v (congrArg₂ ix2 (Fin.ext rfl) (Fin.ext ?_))
    simp only [Shape.Idx.norm_def]
    show x.val - n = (x.val + (128 - n)) % 128
    omega

/-- The mask embedding read at a batch entry and a column. -/
theorem memb_apply (x0 x1 : Vec F S1x128 .f32) (x3 : Vec F S64x200 .i32) (l : ℕ) (hl : l < 200) (h) (b : Fin 64) (x : Fin 128) :
    memb x0 x1 x3 l h (ix2 b x)
      = FloatOps.addf (x0 (ix2 0 x)) (FloatOps.mulf (FloatOps.sitofp .f32 (x3 (ix2 b ⟨l, hl⟩)))
          (FloatOps.subf (x1 (ix2 0 x)) (x0 (ix2 0 x)))) := by
  unfold memb w0
  rw [View.ld_unit_lit _ _ (by decide), View.ld_unit_lit _ _ (by decide), View.ld_unit_lit _ _ (by decide)]
  pointwise

/-- A small number, as a word, reads back as itself. -/
theorem toInt_small (k : ℕ) (hk : k ≤ 128) : (BitVec.ofNat 32 k).toInt = (k : ℤ) := by
  have e : (BitVec.ofNat 32 k).toNat = k := by
    rw [BitVec.toNat_ofNat]; exact Nat.mod_eq_of_lt (by omega)
  rw [BitVec.toInt_eq_toNat_of_lt (by rw [e]; omega), e]

/-- The choice by column, read at a column. -/
theorem sel_apply (n : ℕ) (hn : n ≤ 128) (a c : FVec F S64x128 .f32) (b : Fin 64) (x : Fin 128) :
    sel n a c (ix2 b x) = if x.val < n then a (ix2 b x) else c (ix2 b x) := by
  unfold sel
  pointwise
  have hx := x.isLt
  have hc : IntOp.cmpi .slt (BitVec.ofNat 32 x.val) (BitVec.ofNat 32 n) = BitVec.ofBool (decide (x.val < n)) := by
    simp only [IntOp.cmpi, BitVec.slt, toInt_small x.val (by omega), toInt_small n hn, Nat.cast_lt]
  rw [hc]
  unfold Scalar.select
  by_cases h : x.val < n <;> simp [h]

end Cert.KernelIdeal.Hand

end
-- ==== Proof.Block.lean ====
module

public import proofs.«01_k».proof.Proof.Tile

@[expose] public section

set_option maxRecDepth 16384

noncomputable section

open Idealize.ShloMosaic Idealize.ShloMosaic.TcCoe Idealize.SL.Sem

/-!
# What one block of the output holds

The nine tiles of a group are read at an index, and each of them agrees with one closed form of the whole block: column
`f` belongs to sequence position `f / 144`, and within the position the first 128 columns are the sequence row and the
last 16 are the mask embedding.
-/

namespace Cert.KernelIdeal.Hand

open Cert.KernelIdeal Cert.KernelIdeal.Gen

variable {F : FTy → Type} [FloatOps F] [Facts]

/-! ## The side conditions of the accesses, for a variable position -/

/-- A sequence row lies inside the block of sequences. -/
theorem inRow (l : ℕ) (hl : l < 200) (a : Fin 3) : (![0, l, 0] : Fin 3 → ℕ) a + S64x1x128.size a ≤ S64x200x128.size a := by
  match a with
  | ⟨0, _⟩ => show 0 + 64 ≤ 64; omega
  | ⟨1, _⟩ => show l + 1 ≤ 200; omega
  | ⟨2, _⟩ => show 0 + 128 ≤ 128; omega

/-- A tile of 128 columns lies inside the output block. -/
theorem inCol (p : ℕ) (hp : p < 225) (a : Fin 2) : (![0, 128 * p] : Fin 2 → ℕ) a + S64x128.size a ≤ S64x28800.size a := by
  match a with
  | ⟨0, _⟩ => show 0 + 64 ≤ 64; omega
  | ⟨1, _⟩ => show 128 * p + 128 ≤ 28800; omega

/-- One column of the mask lies inside the mask. -/
theorem inMask (l : ℕ) (hl : l < 200) : S64x200.Slices ![0, l] S64x1 :=
  ⟨rfl, fun a => match a with
    | ⟨0, _⟩ => (by show 0 + 64 ≤ 64; omega)
    | ⟨1, _⟩ => (by show l + 1 ≤ 200; omega)⟩

/-- The last `n` columns of a tile lie inside it. -/
theorem inRight (n : ℕ) (hn : n ≤ 128) : S64x128.Slices ![0, 128 - n] (⟨2, ![64, n]⟩ : Shape) :=
  ⟨rfl, fun a => match a with
    | ⟨0, _⟩ => (by show 0 + 64 ≤ 64; omega)
    | ⟨1, _⟩ => (by show 128 - n + n ≤ 128; omega)⟩

/-- The other columns of a tile lie inside it. -/
theorem inLeft (n : ℕ) : S64x128.Slices ![0, 0] (⟨2, ![64, 128 - n]⟩ : Shape) :=
  ⟨rfl, fun a => match a with
    | ⟨0, _⟩ => (by show 0 + 64 ≤ 64; omega)
    | ⟨1, _⟩ => (by show 0 + (128 - n) ≤ 128; omega)⟩

/-- The two parts of a turned tile fill it. -/
theorem fills (n : ℕ) (hn : n ≤ 128) :
    Shape.Concatenates [(⟨2, ![64, n]⟩ : Shape), (⟨2, ![64, 128 - n]⟩ : Shape)] S64x128 1 := by
  refine ⟨le_rfl, ?_, ?_⟩
  · intro s hs
    simp only [List.mem_cons, List.not_mem_nil, or_false] at hs
    rcases hs with rfl | rfl
    · exact ⟨rfl, fun b hb => match b, hb with | ⟨0, _⟩, _ => rfl | ⟨1, _⟩, hb => absurd rfl hb⟩
    · exact ⟨rfl, fun b hb => match b, hb with | ⟨0, _⟩, _ => rfl | ⟨1, _⟩, hb => absurd rfl hb⟩
  · show n + (128 - n + 0) = 128
    omega

/-! ## The tiles of a group -/

section Group

variable (x0 x1 : Vec F S1x128 .f32) (x2 : Vec F S64x200x128 .f32) (x3 : Vec F S64x200 .i32)

/-- The `t`-th sequence row of group `g`, turned right by `16 t` columns. -/
def turned (g t : ℕ) (hg : g < 25) (ht : t < 8) : FVec F S64x128 .f32 :=
  rot (16 * t) (row x2 (8 * g + t) (inRow _ (by omega))) (inRight _ (by omega)) (inLeft _) (fills _ (by omega))

/-- The `t`-th mask embedding of group `g`. -/
def mask (g t : ℕ) (hg : g < 25) (ht : t < 8) : FVec F S64x128 .f32 := memb x0 x1 x3 (8 * g + t) (inMask _ (by omega))

/-- A tile of the group holding the end of one sequence row, its mask embedding and the start of the next row. -/
def middle (g t : ℕ) (hg : g < 25) (ht : t + 1 < 8) : FVec F S64x128 .f32 :=
  sel (16 * t) (turned x2 g t hg (by omega)) (sel (16 * (t + 1)) (mask x0 x1 x3 g t hg (by omega)) (turned x2 g (t + 1) hg ht))

/-- The store of a tile at column tile `p` of the block. -/
def piece (p : ℕ) (hp : p < 225) (v : FVec F S64x128 .f32) : View.Piece (Elt F) S64x28800 .f32 :=
  ⟨Rect.unit (s := S64x28800) ![0, 128 * p] S64x128.size (inCol p hp), v⟩

/-- The nine stores of group `g`, the last one first. -/
def group (g : ℕ) (hg : g < 25) : List (View.Piece (Elt F) S64x28800 .f32) :=
  [piece (9 * g + 8) (by omega) (sel 112 (turned x2 g 7 hg (by omega)) (mask x0 x1 x3 g 7 hg (by omega))),
   piece (9 * g + 7) (by omega) (middle x0 x1 x2 x3 g 6 hg (by omega)),
   piece (9 * g + 6) (by omega) (middle x0 x1 x2 x3 g 5 hg (by omega)),
   piece (9 * g + 5) (by omega) (middle x0 x1 x2 x3 g 4 hg (by omega)),
   piece (9 * g + 4) (by omega) (middle x0 x1 x2 x3 g 3 hg (by omega)),
   piece (9 * g + 3) (by omega) (middle x0 x1 x2 x3 g 2 hg (by omega)),
   piece (9 * g + 2) (by omega) (middle x0 x1 x2 x3 g 1 hg (by omega)),
   piece (9 * g + 1) (by omega) (sel 16 (mask x0 x1 x3 g 0 hg (by omega)) (turned x2 g 1 hg (by omega))),
   piece (9 * g + 0) (by omega) (row x2 (8 * g) (inRow _ (by omega)))]

/-- The stores of the first `n` groups, the last one first. -/
def groups : (n : ℕ) → n ≤ 25 → List (View.Piece (Elt F) S64x28800 .f32)
  | 0, _ => []
  | n + 1, h => group x0 x1 x2 x3 n (by omega) ++ groups n (by omega)

/-! ## The closed form of the block -/

/-- What one batch entry of the output holds at column `f`, from its sequence rows `s` and its mask `k`. -/
def cell (x0 x1 : Vec F S1x128 .f32) (s : Fin 200 → Fin 128 → F .f32) (k : Fin 200 → BitVec 32) (f : Fin 28800) : F .f32 :=
  if h : f.val % 144 < 128 then s ⟨f.val / 144, by omega⟩ ⟨f.val % 144, h⟩
  else FloatOps.addf (x0 (ix2 0 ⟨f.val % 128, by omega⟩))
    (FloatOps.mulf (FloatOps.sitofp .f32 (k ⟨f.val / 144, by omega⟩))
      (FloatOps.subf (x1 (ix2 0 ⟨f.val % 128, by omega⟩)) (x0 (ix2 0 ⟨f.val % 128, by omega⟩))))

/-- What the block holds at batch entry `b` and column `f`. -/
def blockAt (b : Fin 64) (f : Fin 28800) : F .f32 := cell x0 x1 (fun l d => x2 (ix3 b l d)) (fun l => x3 (ix2 b l)) f

/-- The closed form at a column of the sequence part. -/
theorem blockAt_row (b : Fin 64) (f : Fin 28800) (l : Fin 200) (d : Fin 128) (h : f.val = 144 * l.val + d.val) :
    blockAt x0 x1 x2 x3 b f = x2 (ix3 b l d) := by
  have hd := d.isLt
  unfold blockAt cell
  rw [dif_pos (by omega)]
  exact congrArg x2 (congrArg₂ (ix3 b) (Fin.ext (by show f.val / 144 = l.val; omega)) (Fin.ext (by show f.val % 144 = d.val; omega)))

/-- The closed form at a column of the mask part. -/
theorem blockAt_mask (b : Fin 64) (f : Fin 28800) (l : Fin 200) (x : Fin 128) (h : 144 * l.val + 128 ≤ f.val)
    (h' : f.val < 144 * l.val + 144) (hx : f.val % 128 = x.val) :
    blockAt x0 x1 x2 x3 b f = FloatOps.addf (x0 (ix2 0 x)) (FloatOps.mulf (FloatOps.sitofp .f32 (x3 (ix2 b l)))
      (FloatOps.subf (x1 (ix2 0 x)) (x0 (ix2 0 x)))) := by
  unfold blockAt cell
  rw [dif_neg (by omega)]
  have e1 : (⟨f.val / 144, by omega⟩ : Fin 200) = l := Fin.ext (by show f.val / 144 = l.val; omega)
  have e2 : (⟨f.val % 128, by omega⟩ : Fin 128) = x := Fin.ext hx
  rw [e1, e2]

/-- A turned row read at a column. -/
theorem turned_apply (g t : ℕ) (hg : g < 25) (ht : t < 8) (b : Fin 64) (x : Fin 128) :
    turned x2 g t hg ht (ix2 b x)
      = x2 (ix3 b ⟨8 * g + t, by omega⟩ ⟨(x.val + (128 - 16 * t)) % 128, Nat.mod_lt _ (by omega)⟩) := by
  unfold turned
  rw [rot_apply _ (by omega), row_apply _ _ (by omega)]

/-- A group's mask embedding read at a column. -/
theorem mask_apply (g t : ℕ) (hg : g < 25) (ht : t < 8) (b : Fin 64) (x : Fin 128) :
    mask x0 x1 x3 g t hg ht (ix2 b x)
      = FloatOps.addf (x0 (ix2 0 x)) (FloatOps.mulf (FloatOps.sitofp .f32 (x3 (ix2 b ⟨8 * g + t, by omega⟩)))
          (FloatOps.subf (x1 (ix2 0 x)) (x0 (ix2 0 x)))) := by
  unfold mask
  rw [memb_apply _ _ _ _ (by omega)]

/-- A tile agrees with the closed form of the block on the columns it is stored at. -/
def Agrees (p : ℕ) (hp : p < 225) (v : FVec F S64x128 .f32) : Prop :=
  ∀ (b : Fin 64) (x : Fin 128), v (ix2 b x) = blockAt x0 x1 x2 x3 b ⟨128 * p + x.val, by omega⟩

/-- A middle tile agrees with the closed form. -/
theorem middle_agrees (g t : ℕ) (hg : g < 25) (ht : t + 1 < 8) :
    Agrees x0 x1 x2 x3 (9 * g + (t + 1)) (by omega) (middle x0 x1 x2 x3 g t hg ht) := by
  intro b x
  have hx := x.isLt
  unfold middle
  rw [sel_apply _ (by omega), sel_apply _ (by omega)]
  split
  · next h =>
    rw [turned_apply]
    exact (blockAt_row _ _ _ _ _ _ _ _ (by dsimp only; omega)).symm
  · next h =>
    split
    · next h' =>
      rw [mask_apply]
      exact (blockAt_mask _ _ _ _ _ _ _ _ (by dsimp only; omega) (by dsimp only; omega) (by dsimp only; omega)).symm
    · next h' =>
      rw [turned_apply]
      exact (blockAt_row _ _ _ _ _ _ _ _ (by dsimp only; omega)).symm

/-- A group's second tile agrees with the closed form. -/
theorem second_agrees (g : ℕ) (hg : g < 25) :
    Agrees x0 x1 x2 x3 (9 * g + 1) (by omega) (sel 16 (mask x0 x1 x3 g 0 hg (by omega)) (turned x2 g 1 hg (by omega))) := by
  intro b x
  have hx := x.isLt
  rw [sel_apply _ (by omega)]
  split
  · next h =>
    rw [mask_apply]
    exact (blockAt_mask _ _ _ _ _ _ _ _ (by dsimp only; omega) (by dsimp only; omega) (by dsimp only; omega)).symm
  · next h =>
    rw [turned_apply]
    exact (blockAt_row _ _ _ _ _ _ _ _ (by dsimp only; omega)).symm

/-- A group's last tile agrees with the closed form. -/
theorem last_agrees (g : ℕ) (hg : g < 25) :
    Agrees x0 x1 x2 x3 (9 * g + 8) (by omega) (sel 112 (turned x2 g 7 hg (by omega)) (mask x0 x1 x3 g 7 hg (by omega))) := by
  intro b x
  have hx := x.isLt
  rw [sel_apply _ (by omega)]
  split
  · next h =>
    rw [turned_apply]
    exact (blockAt_row _ _ _ _ _ _ _ _ (by dsimp only; omega)).symm
  · next h =>
    rw [mask_apply]
    exact (blockAt_mask _ _ _ _ _ _ _ _ (by dsimp only; omega) (by dsimp only; omega) (by dsimp only; omega)).symm

/-- A group's first tile agrees with the closed form. -/
theorem first_agrees (g : ℕ) (hg : g < 25) :
    Agrees x0 x1 x2 x3 (9 * g + 0) (by omega) (row x2 (8 * g) (inRow _ (by omega))) := by
  intro b x
  have hx := x.isLt
  rw [row_apply _ _ (by omega)]
  exact (blockAt_row _ _ _ _ _ _ _ _ (by dsimp only; omega)).symm

/-- The closed form as a function of the block's index. -/
def block : Vec F S64x28800 .f32 := fun i => blockAt x0 x1 x2 x3 (i 0) (i 1)

/-- A stored tile that agrees with the closed form holds it wherever it is stored. -/
theorem piece_eq (p : ℕ) (hp : p < 225) (v : FVec F S64x128 .f32) (h : Agrees x0 x1 x2 x3 p hp v)
    (x : (piece p hp v).1.shape.Idx) : (piece p hp v).2 x = block x0 x1 x2 x3 ((piece p hp v).1.emb x) := by
  have e := h (x 0) (x 1)
  refine (congrArg v (ValueIdx.eq_ix2 x)).trans (e.trans ?_)
  refine congrArg₂ (blockAt x0 x1 x2 x3) (Fin.ext ?_) (Fin.ext ?_)
  · exact ((Rect.idx_unit_val (s := S64x28800) ![0, 128 * p] S64x128.size (inCol p hp) x 0).trans (Nat.zero_add _)).symm
  · exact (Rect.idx_unit_val (s := S64x28800) ![0, 128 * p] S64x128.size (inCol p hp) x 1).symm

/-- Every store of a group holds the closed form. -/
theorem group_eq (g : ℕ) (hg : g < 25) (q : View.Piece (Elt F) S64x28800 .f32) (hq : q ∈ group x0 x1 x2 x3 g hg)
    (x : q.1.shape.Idx) : q.2 x = block x0 x1 x2 x3 (q.1.emb x) := by
  simp only [group, List.mem_cons, List.not_mem_nil, or_false] at hq
  rcases hq with rfl | rfl | rfl | rfl | rfl | rfl | rfl | rfl | rfl
  · exact piece_eq _ _ _ _ _ _ _ (last_agrees _ _ _ _ g hg) x
  · exact piece_eq _ _ _ _ _ _ _ (middle_agrees _ _ _ _ g 6 hg _) x
  · exact piece_eq _ _ _ _ _ _ _ (middle_agrees _ _ _ _ g 5 hg _) x
  · exact piece_eq _ _ _ _ _ _ _ (middle_agrees _ _ _ _ g 4 hg _) x
  · exact piece_eq _ _ _ _ _ _ _ (middle_agrees _ _ _ _ g 3 hg _) x
  · exact piece_eq _ _ _ _ _ _ _ (middle_agrees _ _ _ _ g 2 hg _) x
  · exact piece_eq _ _ _ _ _ _ _ (middle_agrees _ _ _ _ g 1 hg _) x
  · exact piece_eq _ _ _ _ _ _ _ (second_agrees _ _ _ _ g hg) x
  · exact piece_eq _ _ _ _ _ _ _ (first_agrees _ _ _ _ g hg) x

/-- Every store of the first `n` groups holds the closed form. -/
theorem groups_eq : (n : ℕ) → (hn : n ≤ 25) → (q : View.Piece (Elt F) S64x28800 .f32) → q ∈ groups x0 x1 x2 x3 n hn →
    (x : q.1.shape.Idx) → q.2 x = block x0 x1 x2 x3 (q.1.emb x)
  | 0, _, _, hq, _ => absurd hq List.not_mem_nil
  | n + 1, hn, q, hq, x => (List.mem_append.mp hq).elim (fun h => group_eq x0 x1 x2 x3 n (by omega) q h x)
      (fun h => groups_eq n (by omega) q h x)

/-- An index is in the stored tile of its column. -/
theorem mem_piece (p : ℕ) (hp : p < 225) (v : FVec F S64x128 .f32) (y : S64x28800.Idx) (h : 128 * p ≤ (y 1).val)
    (h' : (y 1).val < 128 * p + 128) : y ∈ (piece p hp v).1.set := by
  have h0 : (y 0).val < 64 := (y 0).isLt
  show y ∈ (Rect.unit (s := S64x28800) ![0, 128 * p] S64x128.size (inCol p hp)).set
  rw [Rect.mem_set_unit]
  intro a
  match a with
  | ⟨0, _⟩ => exact ⟨Nat.zero_le _, by show (y 0).val < 0 + 64; omega⟩
  | ⟨1, _⟩ => exact ⟨h, h'⟩

/-- A group's stores cover the columns of its eight sequence positions. -/
theorem group_cover (g : ℕ) (hg : g < 25) (y : S64x28800.Idx) (h : 1152 * g ≤ (y 1).val) (h' : (y 1).val < 1152 * g + 1152) :
    ∃ q ∈ group x0 x1 x2 x3 g hg, y ∈ q.1.set := by
  have hj : ∃ j, j < 9 ∧ 128 * (9 * g + j) ≤ (y 1).val ∧ (y 1).val < 128 * (9 * g + j) + 128 :=
    ⟨(y 1).val / 128 - 9 * g, by omega, by omega, by omega⟩
  obtain ⟨j, hj, h1, h2⟩ := hj
  have hex : ∃ v, piece (9 * g + j) (by omega) v ∈ group x0 x1 x2 x3 g hg := by
    unfold group
    interval_cases j <;> apply Exists.intro <;> repeat (first | exact List.Mem.head _ | apply List.Mem.tail)
  obtain ⟨v, hv⟩ := hex
  exact ⟨_, hv, mem_piece _ _ _ _ h1 h2⟩

/-- The stores of the first `n` groups cover the columns of their positions. -/
theorem groups_cover : (n : ℕ) → (hn : n ≤ 25) → (y : S64x28800.Idx) → (y 1).val < 1152 * n →
    ∃ q ∈ groups x0 x1 x2 x3 n hn, y ∈ q.1.set
  | 0, _, _, h => absurd h (by omega)
  | n + 1, hn, y, h => by
    by_cases hlt : (y 1).val < 1152 * n
    · obtain ⟨q, hq, hy⟩ := groups_cover n (by omega) y hlt
      exact ⟨q, List.mem_append.mpr (Or.inr hq), hy⟩
    · obtain ⟨q, hq, hy⟩ := group_cover x0 x1 x2 x3 n (by omega) y (by omega) (by omega)
      exact ⟨q, List.mem_append.mpr (Or.inl hq), hy⟩

/-- The block left by the 25 groups' stores is the closed form. -/
theorem canon_groups : View.canon (groups x0 x1 x2 x3 25 le_rfl) = block x0 x1 x2 x3 :=
  funext fun y => View.canon_apply_of_pieces _ _ (groups_eq x0 x1 x2 x3 25 le_rfl) y
    (groups_cover x0 x1 x2 x3 25 le_rfl y (by have h : (y 1).val < 28800 := (y 1).isLt; omega))

end Group

end Cert.KernelIdeal.Hand

end
-- ==== Proof.Out.lean ====
module

public import proofs.«01_k».proof.Proof.Block
public import proofs.«01_k».proof.Proof.Gen.KernelIdeal.Frame

@[expose] public section

set_option maxRecDepth 16384

noncomputable section

open Idealize.ShloMosaic Idealize.ShloMosaic.TcCoe Idealize.SL.Sem

/-!
# The body's output is the closed form of the block
-/

namespace Cert.KernelIdeal.Hand

open Cert.KernelIdeal Cert.KernelIdeal.Gen

variable {F : FTy → Type} [FloatOps F]

/-- The body's 225 stores are the stores of the 25 groups. -/
theorem out_eq_groups (x0 x1 : Vec F S1x128 .f32) (x2 : Vec F S64x200x128 .f32) (x3 : Vec F S64x200 .i32) :
    out0_4 x0 x1 x2 x3 = View.canon (groups x0 x1 x2 x3 25 le_rfl) := by
  sl_kernel_rfl

end Cert.KernelIdeal.Hand

end
-- ==== Proof.Array.lean ====
module

public import proofs.«01_k».proof.Proof.Out

@[expose] public section

set_option maxRecDepth 16384

noncomputable section

open Idealize.ShloMosaic Idealize.ShloMosaic.TcCoe Idealize.SL.Sem
open Idealize.ShloMosaic.Pipeline (Dat)

/-!
# What the output array holds after the run

Grid point `t` writes batch entries `64 t` to `64 t + 63`, so the 64 blocks tile the array and the array is one function
of the two weight rows, the sequences and the mask.
-/

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The output array as one function of what the region finds. -/
def whole (w0 w1 : Vec F S1x128 .f32) (sent : Vec F S4096x200x128 .f32) (msk : Vec F S4096x200 .i32) : Vec F S4096x28800 .f32 :=
  fun i => cell w0 w1 (fun l d => sent (ix3 (i 0) l d)) (fun l => msk (ix2 (i 0) l)) (i 1)

/-- Where each window's block of a point starts, in blocks: the weight rows never move, the others follow the point. -/
theorem starts : ∀ t : Fin cfg0.N,
    (win0_0.index t 0 = 0 ∧ win0_0.index t 1 = 0) ∧ (win0_1.index t 0 = 0 ∧ win0_1.index t 1 = 0)
      ∧ (win0_2.index t 0 = t.val ∧ win0_2.index t 1 = 0 ∧ win0_2.index t 2 = 0)
      ∧ (win0_3.index t 0 = t.val ∧ win0_3.index t 1 = 0)
      ∧ (win0_4.index t 0 = t.val ∧ win0_4.index t 1 = 0) :=
  (by decide +kernel : ∀ t : Fin grid0.N,
    (win0_0.index t 0 = 0 ∧ win0_0.index t 1 = 0) ∧ (win0_1.index t 0 = 0 ∧ win0_1.index t 1 = 0)
      ∧ (win0_2.index t 0 = t.val ∧ win0_2.index t 1 = 0 ∧ win0_2.index t 2 = 0)
      ∧ (win0_3.index t 0 = t.val ∧ win0_3.index t 1 = 0)
      ∧ (win0_4.index t 0 = t.val ∧ win0_4.index t 1 = 0))

/-- The batch entry that entry `b` of point `t`'s block is. -/
def entry (t : Fin cfg0.N) (b : Fin 64) : Fin 4096 :=
  ⟨t.val * 64 + b.val, by have := lt_of_lt_of_eq t.isLt N_0; omega⟩

/-- The first weight window reads the whole first weight row. -/
theorem read0 (c : Dev nD) (t : Fin cfg0.N) (x : Fin 128) :
    (iblk m c 0 t : Vec F S1x128 .f32) (ix2 0 x) = (V m c main_v5 : Vec F S1x128 .f32) (ix2 0 x) := by
  refine congrArg (V m c main_v5 : Vec F S1x128 .f32) (funext fun a => Fin.ext ?_)
  match a with
  | ⟨0, _⟩ => show win0_0.index t 0 * 1 + 1 * 0 = 0; rw [(starts t).1.1]
  | ⟨1, _⟩ => show win0_0.index t 1 * 128 + 1 * x.val = x.val; rw [(starts t).1.2]; omega

/-- The second weight window reads the whole second weight row. -/
theorem read1 (c : Dev nD) (t : Fin cfg0.N) (x : Fin 128) :
    (iblk m c 1 t : Vec F S1x128 .f32) (ix2 0 x) = (V m c main_v11 : Vec F S1x128 .f32) (ix2 0 x) := by
  refine congrArg (V m c main_v11 : Vec F S1x128 .f32) (funext fun a => Fin.ext ?_)
  match a with
  | ⟨0, _⟩ => show win0_1.index t 0 * 1 + 1 * 0 = 0; rw [(starts t).2.1.1]
  | ⟨1, _⟩ => show win0_1.index t 1 * 128 + 1 * x.val = x.val; rw [(starts t).2.1.2]; omega

/-- The sequence window reads the point's batch entries. -/
theorem read2 (c : Dev nD) (t : Fin cfg0.N) (b : Fin 64) (l : Fin 200) (d : Fin 128) :
    (iblk m c 2 t : Vec F S64x200x128 .f32) (ix3 b l d) = (V m c main_arg0 : Vec F S4096x200x128 .f32) (ix3 (entry t b) l d) := by
  refine congrArg (V m c main_arg0 : Vec F S4096x200x128 .f32) (funext fun a => Fin.ext ?_)
  match a with
  | ⟨0, _⟩ => show win0_2.index t 0 * 64 + 1 * b.val = t.val * 64 + b.val; rw [(starts t).2.2.1.1]; omega
  | ⟨1, _⟩ => show win0_2.index t 1 * 200 + 1 * l.val = l.val; rw [(starts t).2.2.1.2.1]; omega
  | ⟨2, _⟩ => show win0_2.index t 2 * 128 + 1 * d.val = d.val; rw [(starts t).2.2.1.2.2]; omega

/-- The mask window reads the point's batch entries. -/
theorem read3 (c : Dev nD) (t : Fin cfg0.N) (b : Fin 64) (l : Fin 200) :
    (iblk m c 3 t : Vec F S64x200 .i32) (ix2 b l) = (V m c main_arg1 : Vec F S4096x200 .i32) (ix2 (entry t b) l) := by
  refine congrArg (V m c main_arg1 : Vec F S4096x200 .i32) (funext fun a => Fin.ext ?_)
  match a with
  | ⟨0, _⟩ => show win0_3.index t 0 * 64 + 1 * b.val = t.val * 64 + b.val; rw [(starts t).2.2.2.1.1]; omega
  | ⟨1, _⟩ => show win0_3.index t 1 * 200 + 1 * l.val = l.val; rw [(starts t).2.2.2.1.2]; omega

/-- The output array the run is shown to leave on device `c`. -/
abbrev result (c : Dev nD) : Vec F S4096x28800 .f32 := whole (V m c main_v5) (V m c main_v11) (V m c main_arg0) (V m c main_arg1)

/-- The body's block of a point at an entry and a column is the whole array at the entry's batch entry. -/
theorem block_apply (c : Dev nD) (t : Fin cfg0.N) (b : Fin 64) (f : Fin 28800) :
    blockAt (iblk m c 0 t) (iblk m c 1 t) (iblk m c 2 t) (iblk m c 3 t) b f = result m c (ix2 (entry t b) f) := by
  unfold blockAt result whole cell
  simp only [read0, read1, read2, read3]
  rfl

/-- What a point writes back is its block of the whole array. -/
theorem flushed_eq (c : Dev nD) (t : Fin cfg0.N) :
    (dats m 0 c).flushed 4 t = (win0_4.blk t).view.read (Elt F) (result m c) := by
  show (cfg0.win 4).cut (grid0.coords t) ((dats m 0 c).after 4 t) = _
  rw [after0_4, out_eq_groups, canon_groups]
  funext j
  refine (block_apply m c t (j 0) (j 1)).trans ?_
  refine congrArg (result m c) (funext fun a => Fin.ext ?_)
  match a with
  | ⟨0, _⟩ => show t.val * 64 + (j 0).val = win0_4.index t 0 * 64 + 1 * (j 0).val; rw [(starts t).2.2.2.2.1]; omega
  | ⟨1, _⟩ => show (j 1).val = win0_4.index t 1 * 28800 + 1 * (j 1).val; rw [(starts t).2.2.2.2.2]; omega

/-- A batch entry's columns lie in the block of its point. -/
theorem mem_blk (t : Fin cfg0.N) (i : S4096x28800.Idx) (h : t.val * 64 ≤ (i 0).val) (h' : (i 0).val < t.val * 64 + 64) :
    i ∈ ((cfg0.win 4).blk t).view.set := by
  show i ∈ ((View.whole main_v12).slice (win0_4.rect t)).set
  rw [View.set_slice_whole, Rect.mem_set_unit]
  intro a
  have e0 : win0_4.index t 0 = t.val := (starts t).2.2.2.2.1
  have e1 : win0_4.index t 1 = 0 := (starts t).2.2.2.2.2
  have h1 : (i 1).val < 28800 := (i 1).isLt
  match a with
  | ⟨0, _⟩ =>
    show win0_4.index t 0 * 64 ≤ (i 0).val ∧ (i 0).val < win0_4.index t 0 * 64 + 64
    rw [e0]; exact ⟨h, h'⟩
  | ⟨1, _⟩ =>
    show win0_4.index t 1 * 28800 ≤ (i 1).val ∧ (i 1).val < win0_4.index t 1 * 28800 + 28800
    rw [e1]; omega

/-- The blocks of the 64 points tile the array. -/
theorem cover (i : S4096x28800.Idx) : ∃ t : Fin cfg0.N, (cfg0.win 4).flush t = true ∧ i ∈ ((cfg0.win 4).blk t).view.set := by
  have h0 : (i 0).val < 4096 := (i 0).isLt
  have hN : cfg0.N = 64 := N_0
  have ht : (i 0).val / 64 < cfg0.N := by rw [hN]; omega
  exact ⟨⟨(i 0).val / 64, ht⟩, flush0_4 _, mem_blk _ i (by dsimp only; omega) (by dsimp only; omega)⟩

/-- The output array after the run. -/
theorem final (c : Dev nD) : (dats m 0 c).arrAt 4 cfg0.N = result m c :=
  (dats m 0 c).arrAt_eq_of_cover 4 (result m c) (fun t _ => flushed_eq m c t) cover

end Cert.KernelIdeal.Hand

end
-- ==== Proof.Host.lean ====
module

public import proofs.«01_k».proof.Proof.Array
public import Idealize.ShloMosaic.Lib.StableHlo.ReadAt

@[expose] public section

set_option maxRecDepth 16384

noncomputable section

open Idealize.ShloMosaic Idealize.ShloMosaic.TcCoe Idealize.SL.Sem

/-!
# What the host lines around the region compute

Before the region each table row is repeated eight times into a row of 128 lanes; after it the output's 28800 columns
are split into 200 rows of 144. Together with the output array this gives the result buffer, entry by entry.
-/

namespace Cert.KernelIdeal.Hand

open Cert.KernelIdeal Cert.KernelIdeal.Gen

variable {F : FTy → Type} [FloatOps F]
variable (m : (ℓ : Loc nD τ sig) → Buf (Elt F) ℓ) (ρ : Dev nD → PrngReg)

/-- The first weight row is the table's row 0, repeated. -/
theorem lanes0 (c : Dev nD) (x : Fin 128) : (V m c main_v5 : Vec F S1x128 .f32) (ix2 (0 : Fin 1) x)
    = (m ((c : Thread nD τ).loc main_arg2) : Vec F S2x16 .f32) (ix2 (0 : Fin 2) (⟨x.val % 16, by omega⟩ : Fin 16)) := by
  unfold V V0
  simp only [List.flatten_cons, List.flatten_nil, List.append_nil]
  after_reads_at

/-- The second weight row is the table's row 1, repeated. -/
theorem lanes1 (c : Dev nD) (x : Fin 128) : (V m c main_v11 : Vec F S1x128 .f32) (ix2 (0 : Fin 1) x)
    = (m ((c : Thread nD τ).loc main_arg2) : Vec F S2x16 .f32) (ix2 (1 : Fin 2) (⟨x.val % 16, by omega⟩ : Fin 16)) := by
  unfold V V0
  simp only [List.flatten_cons, List.flatten_nil, List.append_nil]
  after_reads_at

/-- The column of the output that holds lane `d` of row `l`. -/
def col (l : Fin 200) (d : Fin 144) : Fin 28800 := ⟨l.val * 144 + d.val, by omega⟩

/-- The result buffer is the output array with its columns split. -/
theorem tail (c : Dev nD) : Pipeline.afterTail₀ cfgs (dats m) 0 (V0 m) [hostOps1] c main_v13
    = shapeCast S4096x200x144 (result m c) shapeCasts_S4096x28800_S4096x200x144 := by
  have arrs : Function.Injective (Pipeline.arrRef spec0) := by decide
  unfold Pipeline.afterTail₀
  simp only [List.flatten_cons, List.flatten_nil, List.append_nil, hostOps1, StableHlo.after_cons, StableHlo.after_nil]
  refine (StableHlo.reshape_result main_v12 main_v13 rfl shapeCasts_S4096x28800_S4096x200x144 _ _ _).trans ?_
  exact congrArg (fun x : Vec F S4096x28800 .f32 => shapeCast S4096x200x144 x shapeCasts_S4096x28800_S4096x200x144)
    ((Pipeline.withArrays_arr spec0 arrs c (V0 m c) (fun w => (dats m 0 c).arrAt w cfg0.N) 4).trans (final m c))

/-- What the result buffer of device `c` holds. -/
def answer (c : Dev nD) : Vec F S4096x200x144 .f32 := shapeCast S4096x200x144 (result m c) shapeCasts_S4096x28800_S4096x200x144

/-- The result, entry by entry: a sequence entry, or the two table rows blended by the mask. -/
theorem answer_apply (c : Dev nD) (b : Fin 4096) (l : Fin 200) (d : Fin 144) :
    answer m c (ix3 b l d) = if hd : d.val < 128 then (m ((c : Thread nD τ).loc main_arg0) : Vec F S4096x200x128 .f32) (ix3 b l ⟨d.val, hd⟩)
      else FloatOps.addf ((m ((c : Thread nD τ).loc main_arg2) : Vec F S2x16 .f32) (ix2 (0 : Fin 2) (⟨d.val - 128, by omega⟩ : Fin 16)))
        (FloatOps.mulf (FloatOps.sitofp .f32 ((m ((c : Thread nD τ).loc main_arg1) : Vec F S4096x200 .i32) (ix2 b l)))
          (FloatOps.subf ((m ((c : Thread nD τ).loc main_arg2) : Vec F S2x16 .f32) (ix2 (1 : Fin 2) (⟨d.val - 128, by omega⟩ : Fin 16)))
            ((m ((c : Thread nD τ).loc main_arg2) : Vec F S2x16 .f32) (ix2 (0 : Fin 2) (⟨d.val - 128, by omega⟩ : Fin 16))))) := by
  have e : answer m c (ix3 b l d) = result m c (ix2 b (col l d)) :=
    congrArg (result m c) (Shape.reshapeEquiv_eq_of_rowMajor _ (by
      rw [Shape.rowMajor_val_two, Shape.rowMajor_val_three]
      show b.val * 28800 + (l.val * 144 + d.val) = (b.val * 200 + l.val) * 144 + d.val
      omega))
  have row : (col l d).val / 144 = l.val := by show (l.val * 144 + d.val) / 144 = l.val; omega
  have lane : (col l d).val % 144 = d.val := by show (l.val * 144 + d.val) % 144 = d.val; omega
  rw [e]
  show cell (V m c main_v5) (V m c main_v11) (fun l d => (V m c main_arg0 : Vec F S4096x200x128 .f32) (ix3 b l d))
    (fun l => (V m c main_arg1 : Vec F S4096x200 .i32) (ix2 b l)) (col l d) = _
  rw [V_main_arg0, V_main_arg1]
  unfold cell
  simp only [row, lane]
  split
  · rfl
  · rename_i hd
    have rep : (⟨(col l d).val % 128 % 16, by omega⟩ : Fin 16) = ⟨d.val - 128, by omega⟩ :=
      Fin.ext (by show (l.val * 144 + d.val) % 128 % 16 = d.val - 128; omega)
    have v0 := (lanes0 m c ⟨(col l d).val % 128, by omega⟩).trans (congrArg (fun x =>
      (m ((c : Thread nD τ).loc main_arg2) : Vec F S2x16 .f32) (ix2 (0 : Fin 2) x)) rep)
    have v1 := (lanes1 m c ⟨(col l d).val % 128, by omega⟩).trans (congrArg (fun x =>
      (m ((c : Thread nD τ).loc main_arg2) : Vec F S2x16 .f32) (ix2 (1 : Fin 2) x)) rep)
    exact congrArg₂ FloatOps.addf v0 (congrArg₂ FloatOps.mulf rfl (congrArg₂ FloatOps.subf v1 v0))

/-- The run: the result buffer ends at `answer`, the arguments as launched. -/
theorem run : θ_run defs (onTc (τ := τ) (main (F := F))) ⟨m, fun _ => 0, ρ⟩ (fun r => ∀ c : Dev nD,
      r.2.mem ((c.tc : Thread nD τ).loc main_v13) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v13 (Pipeline.mem_restRefs_of main_v13 (by decide) (by decide))).trans (tail m c), h.2 c⟩)
    (θ_run_and (run_main m ρ) (unchanged m ρ))

end Cert.KernelIdeal.Hand

end
-- ==== Proof.Ref.lean ====
module

public import proofs.«01_k».proof.Proof.Gen.ReferenceIdeal
public import Idealize.ShloMosaic.Lib.PointwiseCore
public import Idealize.ShloMosaic.Lib.ReduceAll
public import Idealize.ShloMosaic.Lib.Affine

@[expose] public section

set_option maxRecDepth 16384

noncomputable section

open Idealize.ShloMosaic

/-!
# What the reference computes

The reference looks the mask up in the two-row table and joins the result to the sequences. Where every mask word is 0
or 1, the lookup is in range everywhere, and the joined array is one plain function.
-/

namespace Cert.ReferenceIdeal.Hand

open Cert.ReferenceIdeal Cert.ReferenceIdeal.Facts₀

variable {F : FTy → Type} [FloatOps F] [Facts]

/-- Every mask word is 0 or 1. -/
abbrev Bits01 (msk : IVec S4096x200 32) : Prop := ∀ i, msk i = 0#32 ∨ msk i = 1#32

/-- The row numbers the lookup uses: negative words count from the end. -/
def rows (msk : IVec S4096x200 32) : IVec S4096x200x1 32 :=
  broadcastInDim S4096x200x1 ![0, 1] bcast_S4096x200_S4096x200x1_0_1
    (select (cmpi .slt msk (broadcastInDim S4096x200 ![] bcast_S_S4096x200 (constantI S_ 32 0#32)))
      (addi msk (broadcastInDim S4096x200 ![] bcast_S_S4096x200 (constantI S_ 32 2#32))) msk)

/-- Which lookups are in range. -/
def inTable (msk : IVec S4096x200 32) : IVec S4096x200 1 :=
  Host.reduce IntOp.andi
    (andi (cmpi .sge (rows msk) (broadcastInDim S4096x200x1 ![] bcast_S_S4096x200x1 (constantI S_ 32 0#32)))
      (cmpi .sle (rows msk) (broadcastInDim S4096x200x1 ![0, 1, 2] bcast_S1x1x1_S4096x200x1_0_1_2
        (broadcastInDim S1x1x1 ![2] bcast_S1_S1x1x1_2 (constantI S1 32 1#32)))))
    (constantI S_ 1 1#1) reducesTo_S4096x200x1_S4096x200_d2 h_S_

/-- The rows looked up, the fill value where a lookup is out of range. -/
def taken (w : FVec F S2x16 .f32) (msk : IVec S4096x200 32) : FVec F S4096x200x16 .f32 :=
  select (broadcastInDim S4096x200x16 ![0, 1] bcast_S4096x200_S4096x200x16_0_1 (inTable msk))
    (Host.gather gather_S2x16_S4096x200x1_S4096x200x16_2_0_n_n_0_2_116 w (rows msk))
    (broadcastInDim S4096x200x16 ![] bcast_S_S4096x200x16 (constant S_ .f32 0x7FC00000#32))

/-- The reference's result. -/
def joined (s : FVec F S4096x200x128 .f32) (msk : IVec S4096x200 32) (w : FVec F S2x16 .f32) : FVec F S4096x200x144 .f32 :=
  concatenate S4096x200x144 2 [⟨S4096x200x128, s⟩, ⟨S4096x200x16, taken w msk⟩]
    concatenates_S4096x200x128_S4096x200x16_S4096x200x144_d2

/-- The row number of an in-range mask word is the word. -/
theorem rows_apply (msk : IVec S4096x200 32) (h : Bits01 msk) (b : Fin 4096) (l : Fin 200) :
    rows msk (ix3 b l (0 : Fin 1)) = msk (ix2 b l) := by
  have e : rows msk (ix3 b l (0 : Fin 1)) = Scalar.select (IntOp.cmpi .slt (msk (ix2 b l)) 0#32) (IntOp.addi (msk (ix2 b l)) 2#32) (msk (ix2 b l)) := by
    unfold rows
    pointwise
  rw [e]
  rcases h (ix2 b l) with e | e <;> rw [e] <;> rfl

/-- Every lookup is in range. -/
theorem inTable_apply (msk : IVec S4096x200 32) (h : Bits01 msk) (j : S4096x200.Idx) : inTable msk j = 1#1 := by
  unfold inTable
  refine Host.reduce_andi_one _ _ _ _ j rfl fun i => ?_
  obtain ⟨b, l, rfl⟩ : ∃ (b : Fin 4096) (l : Fin 200), i = ix3 b l (0 : Fin 1) := ⟨i 0, i 1, funext fun a => match a with
    | ⟨0, _⟩ => rfl
    | ⟨1, _⟩ => rfl
    | ⟨2, _⟩ => Subsingleton.elim (α := Fin 1) _ _⟩
  show IntOp.andi (IntOp.cmpi .sge (rows msk (ix3 b l (0 : Fin 1))) 0#32) (IntOp.cmpi .sle (rows msk (ix3 b l (0 : Fin 1))) 1#32) = 1#1
  rw [rows_apply msk h]
  rcases h (ix2 b l) with e | e <;> rw [e] <;> rfl

/-- The table row a mask word names. -/
def rowOf (k : BitVec 32) : Fin 2 := if k = 0#32 then 0 else 1

/-- The lookup reads the table at the row its row number names. -/
theorem gather_apply (w : FVec F S2x16 .f32) (idx : IVec S4096x200x1 32) (b : Fin 4096) (l : Fin 200) (d : Fin 16) :
    Host.gather gather_S2x16_S4096x200x1_S4096x200x16_2_0_n_n_0_2_116 w idx (ix3 b l d)
      = w (ix2 (⟨min (idx (ix3 b l (0 : Fin 1))).toInt.toNat 1, by omega⟩ : Fin 2) d) := by
  refine congrArg w (funext fun a => Fin.ext ?_)
  match a with
  | ⟨0, _⟩ =>
    refine congrArg (fun k => min (idx k).toInt.toNat 1) (funext fun e => Fin.ext ?_)
    match e with
    | ⟨0, _⟩ => rfl
    | ⟨1, _⟩ => rfl
    | ⟨2, _⟩ => rfl
  | ⟨1, _⟩ => show 0 + 0 + d.val = d.val; omega

/-- The lookup at an in-range mask word. -/
theorem taken_apply (w : FVec F S2x16 .f32) (msk : IVec S4096x200 32) (h : Bits01 msk) (b : Fin 4096) (l : Fin 200) (d : Fin 16) :
    taken w msk (ix3 b l d) = w (ix2 (rowOf (msk (ix2 b l))) d) := by
  have e : taken w msk (ix3 b l d) = Scalar.select (inTable msk (ix2 b l))
      (Host.gather gather_S2x16_S4096x200x1_S4096x200x16_2_0_n_n_0_2_116 w (rows msk) (ix3 b l d)) (FloatOps.ofBits .f32 0x7FC00000#32) := by
    unfold taken
    pointwise
  rw [e, inTable_apply msk h, gather_apply]
  refine congrArg (fun k => w (ix2 k d)) (Fin.ext ?_)
  show min (rows msk (ix3 b l (0 : Fin 1))).toInt.toNat 1 = (rowOf (msk (ix2 b l))).val
  rw [rows_apply msk h]
  rcases h (ix2 b l) with e | e <;> rw [e] <;> rfl

/-- The reference's result, entry by entry. -/
theorem joined_apply (s : FVec F S4096x200x128 .f32) (msk : IVec S4096x200 32) (w : FVec F S2x16 .f32) (h : Bits01 msk)
    (b : Fin 4096) (l : Fin 200) (d : Fin 144) :
    joined s msk w (ix3 b l d) = if hd : d.val < 128 then s (ix3 b l ⟨d.val, hd⟩)
      else w (ix2 (rowOf (msk (ix2 b l))) (⟨d.val - 128, by omega⟩ : Fin 16)) := by
  have e : joined s msk w (ix3 b l d) = if hd : d.val < 128 then s (ix3 b l ⟨d.val, hd⟩)
      else taken w msk (ix3 b l (⟨d.val - 128, by omega⟩ : Fin 16)) := by
    unfold joined
    pointwise
  rw [e]
  split
  · rfl
  · exact taken_apply w msk h b l _

end Cert.ReferenceIdeal.Hand

end
-- ==== Proof.Pre.lean ====
module

public import proofs.«01_k».proof.Proof.Gen.Pre_in_range
public import Idealize.ShloMosaic.Lib.Pointwise
public import Idealize.ShloMosaic.Lib.ReduceAll

@[expose] public section

set_option maxRecDepth 16384

noncomputable section

open Idealize.ShloMosaic

/-!
# What the precondition says

The precondition holds of three arrays exactly when it reads 1; then every mask word is 0 or 1 and every entry of the
first table row is a real number.
-/

namespace Cert.Pre_in_range.Hand

open Cert.Pre_in_range

variable [Facts]

instance : Subsingleton S_.Idx := ⟨fun _ _ => funext fun a => a.elim0⟩

/-- The largest and smallest single-precision patterns read as the two infinities. -/
theorem infinities : Ideal.ofBits .f32 0x7F800000#32 = ⊤ ∧ Ideal.ofBits .f32 0xFF800000#32 = ⊥ := by
  constructor <;> simp [Ideal.ofBits, Ideal.ieee]

/-- A proposition whose bit is 1 holds. -/
theorem of_bit {p : Prop} [Decidable p] (h : BitVec.ofBool (decide p) = 1#1) : p := by
  by_contra hp
  rw [decide_eq_false hp] at h
  exact absurd h (by decide)

variable (s : FVec Ideal S4096x200x128 .f32) (msk : IVec S4096x200 32) (w : FVec Ideal S2x16 .f32)

/-- Every mask word is 0 or 1. -/
theorem mask01 (h : fn (F := Ideal) s msk w = fun _ => 1#1) (i : S4096x200.Idx) : msk i = 0#32 ∨ msk i = 1#32 := by
  have h0 := congrFun h (Shape.Idx.first Facts.h_S_)
  have h1 := Host.reduce_andi_all _ _ _ _ _ (IntOp.andi_eq_one.1 h0).1 i
  obtain ⟨a, b⟩ := IntOp.andi_eq_one.1 h1
  have a' : 0 ≤ (msk i).toInt := IntOp.cmpi_sge.1 a
  have b' : (msk i).toInt ≤ 1 := IntOp.cmpi_sle.1 b
  rcases (by omega : (msk i).toInt = 0 ∨ (msk i).toInt = 1) with e | e
  · exact .inl (BitVec.eq_of_toInt_eq e)
  · exact .inr (BitVec.eq_of_toInt_eq e)

/-- Every entry of the first table row is a real number. -/
theorem row_real (h : fn (F := Ideal) s msk w = fun _ => 1#1) (d : Fin 16) : ∃ r : ℝ, w (ix2 (0 : Fin 2) d) = (r : EReal) := by
  have h0 := congrFun h (Shape.Idx.first Facts.h_S_)
  have h1 := Host.reduce_andi_all _ _ _ _ _ (IntOp.andi_eq_one.1 h0).2 (ix1 d)
  have e : shapeCast S16 (extractStridedSlice S1x16 ![0, 0] w Facts.slices_S2x16_S1x16_0_0) Facts.shapeCasts_S1x16_S16 (ix1 d) = w (ix2 (0 : Fin 2) d) := by
    pointwise
  obtain ⟨a, b⟩ := IntOp.andi_eq_one.1 h1
  have a' : Ideal.cmp .ogt (w (ix2 (0 : Fin 2) d)) (Ideal.ofBits .f32 0xFF800000#32) = 1#1 := e ▸ a
  have b' : Ideal.cmp .olt (w (ix2 (0 : Fin 2) d)) (Ideal.ofBits .f32 0x7F800000#32) = 1#1 := e ▸ b
  rw [infinities.2] at a'
  rw [infinities.1] at b'
  have lo : ⊥ < w (ix2 (0 : Fin 2) d) := of_bit a'
  have hi : w (ix2 (0 : Fin 2) d) < ⊤ := of_bit b'
  exact ⟨_, (EReal.coe_toReal hi.ne lo.ne').symm⟩

end Cert.Pre_in_range.Hand

end
-- ==== Proof.Equation.lean ====
module

public import proofs.«01_k».proof.Proof.Host
public import proofs.«01_k».proof.Proof.Ref
public import proofs.«01_k».proof.Proof.Pre
public import Idealize.ShloMosaic.Lib.Pointwise

@[expose] public section

set_option maxRecDepth 16384

noncomputable section

open Idealize.ShloMosaic Idealize.ShloMosaic.TcCoe Idealize.SL.Sem

/-!
# The equation: the kernel's blend of two table rows is the reference's lookup

The kernel computes `w0 + k * (w1 - w0)`. Over the extended reals this is `w0` at `k = 0` whatever the entries are, and
`w1` at `k = 1` when `w0` is a real number.
-/

namespace Cert.Equation

open Cert.ReferenceIdeal.Hand (joined joined_apply rowOf)

/-- The blend picks the row the mask word names. -/
theorem blend (w : (Fin 2) → EReal) (r : ℝ) (hw : w 0 = (r : EReal)) (k : BitVec 32) (hk : k = 0#32 ∨ k = 1#32) :
    (FloatOps.addf (F := Ideal) (φ := .f32) (w 0) (FloatOps.mulf (F := Ideal) (φ := .f32) (FloatOps.sitofp (F := Ideal) .f32 k)
      (FloatOps.subf (F := Ideal) (φ := .f32) (w 1) (w 0))) : EReal) = w (rowOf k) := by
  show w 0 + ((k.toInt : ℝ) : EReal) * (w 1 - w 0) = w (rowOf k)
  rcases hk with rfl | rfl
  · show w 0 + (((0#32 : BitVec 32).toInt : ℝ) : EReal) * (w 1 - w 0) = w 0
    simp
  · have one : (1#32 : BitVec 32).toInt = 1 := by decide
    show w 0 + (((1#32 : BitVec 32).toInt : ℝ) : EReal) * (w 1 - w 0) = w 1
    rw [one, Int.cast_one, EReal.coe_one, one_mul, hw]
    induction w 1 with
    | bot => simp
    | top => simp
    | coe s => norm_cast; ring

variable (m : (ℓ : Loc Cert.KernelIdeal.nD Cert.KernelIdeal.τ Cert.KernelIdeal.sig) → Buf (Elt Ideal) ℓ)

/-- Under the precondition the kernel's result is the reference's. -/
theorem agree (c : Dev Cert.KernelIdeal.nD)
    (h : Cert.Pre_in_range.fn (F := Ideal) (m ((c.tc : Thread _ _).loc Cert.KernelIdeal.main_arg0))
      (m ((c.tc : Thread _ _).loc Cert.KernelIdeal.main_arg1)) (m ((c.tc : Thread _ _).loc Cert.KernelIdeal.main_arg2)) = fun _ => 1#1) :
    Cert.KernelIdeal.Hand.answer m c = joined (F := Ideal) (m ((c.tc : Thread _ _).loc Cert.KernelIdeal.main_arg0))
      (m ((c.tc : Thread _ _).loc Cert.KernelIdeal.main_arg1)) (m ((c.tc : Thread _ _).loc Cert.KernelIdeal.main_arg2)) := by
  funext i
  obtain ⟨b, l, d, rfl⟩ : ∃ (b : Fin 4096) (l : Fin 200) (d : Fin 144), i = ix3 b l d := ⟨i 0, i 1, i 2, funext fun a => match a with
    | ⟨0, _⟩ => rfl
    | ⟨1, _⟩ => rfl
    | ⟨2, _⟩ => rfl⟩
  have bits := Cert.Pre_in_range.Hand.mask01 _ _ _ h
  refine (Cert.KernelIdeal.Hand.answer_apply m c b l d).trans (Eq.trans ?_ (joined_apply (F := Ideal)
    (m ((c.tc : Thread _ _).loc Cert.KernelIdeal.main_arg0)) (m ((c.tc : Thread _ _).loc Cert.KernelIdeal.main_arg1))
    (m ((c.tc : Thread _ _).loc Cert.KernelIdeal.main_arg2)) bits b l d).symm)
  split
  · rfl
  · obtain ⟨r, hr⟩ := Cert.Pre_in_range.Hand.row_real _ _ _ h (⟨d.val - 128, by omega⟩ : Fin 16)
    exact blend (fun q => (m ((c.tc : Thread _ _).loc Cert.KernelIdeal.main_arg2) : Vec Ideal Cert.KernelIdeal.S2x16 .f32)
      (ix2 q (⟨d.val - 128, by omega⟩ : Fin 16))) r hr _ (bits (ix2 b l))

end Cert.Equation

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments and ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m g)

/-- Under the precondition the kernel and the reference end with the same result. -/
theorem equal : Cert.algebraic_KernelIdeal_ReferenceIdeal_pre_in_range := by
  intro m g m' g' hpre hargs
  refine ⟨fun c => Cert.KernelIdeal.Hand.answer m c, Cert.KernelIdeal.Hand.run m g, ?_⟩
  refine (θ_run _ _ _).mono (fun r h c => ⟨?_, (h c).2⟩) (Cert.ReferenceIdeal.Value.run m' g')
  refine (h c).1.trans ?_
  rw [(hargs c).1, (hargs c).2.1, (hargs c).2.2]
  exact (Cert.Equation.agree m c (hpre c)).symm

/-- Every claim. -/
theorem claim : Cert.Claim :=
  ⟨Cert.Kernel.Gen.facts, Cert.KernelIdeal.Gen.facts, Cert.ReferenceIdeal.Gen.facts, Cert.Pre_in_range.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, equal⟩

end Cert.Proof

end
